-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_planes_finite_not_zero [hPre_planes_finite_not_zero : Cert.Pre_planes_finite_not_zero.Facts] (m : (ℓ : Loc Cert.KernelIdeal.nD Cert.KernelIdeal.τ Cert.KernelIdeal.sig) → Buf (Elt Ideal) ℓ) : Prop :=
  ∀ c : Dev Cert.KernelIdeal.nD,
    (Cert.Pre_planes_finite_not_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_planes_finite_not_zero [hPre_planes_finite_not_zero : Cert.Pre_planes_finite_not_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_planes_finite_not_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_planes_finite_not_zero [hKernelIdeal : Cert.KernelIdeal.Facts] [hPre_planes_finite_not_zero : Cert.Pre_planes_finite_not_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_planes_finite_not_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_planes_finite_not_zero [hReferenceIdeal : Cert.ReferenceIdeal.Facts] [hPre_planes_finite_not_zero : Cert.Pre_planes_finite_not_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_planes_finite_not_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_n_less_1" .f32 0x36800020#32 ((1 / 262143 : ℝ) : EReal)

def algebraic_KernelIdeal_ReferenceIdeal_pre_planes_finite_not_zero [hKernelIdeal : Cert.KernelIdeal.Facts] [hReferenceIdeal : Cert.ReferenceIdeal.Facts] [hPre_planes_finite_not_zero : Cert.Pre_planes_finite_not_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_planes_finite_not_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_planes_finite_not_zero : Cert.Pre_planes_finite_not_zero.Facts),
    quiescent_Kernel (hKernel := hKernel)
    ∧ quiescent_KernelIdeal (hKernelIdeal := hKernelIdeal)
    ∧ quiescent_KernelIdeal_pre_planes_finite_not_zero (hKernelIdeal := hKernelIdeal) (hPre_planes_finite_not_zero := hPre_planes_finite_not_zero)
    ∧ quiescent_ReferenceIdeal (hReferenceIdeal := hReferenceIdeal)
    ∧ quiescent_ReferenceIdeal_pre_planes_finite_not_zero (hReferenceIdeal := hReferenceIdeal) (hPre_planes_finite_not_zero := hPre_planes_finite_not_zero)
    ∧ preserves_Kernel_KernelIdeal
    ∧ algebraic_KernelIdeal_ReferenceIdeal_pre_planes_finite_not_zero (hKernelIdeal := hKernelIdeal) (hReferenceIdeal := hReferenceIdeal) (hPre_planes_finite_not_zero := hPre_planes_finite_not_zero)
-- ==== Pre_planes_finite_not_zero.lean ====
abbrev S2x192x512x512 : Shape := ⟨4, ![2, 192, 512, 512]⟩
abbrev S1x192x1x1 : Shape := ⟨4, ![1, 192, 1, 1]⟩
abbrev S_ : Shape := ⟨0, ![]⟩
abbrev S2x192 : Shape := ⟨2, ![2, 192]⟩

class Facts : Prop where
  bcast_S_S2x192x512x512 : S_.BroadcastsInDim S2x192x512x512 (![] : Fin 0 → Fin S2x192x512x512.rank)
  reducesTo_S2x192x512x512_S_d0_1_2_3 : S2x192x512x512.ReducesTo [0, 1, 2, 3] S_
  h_S_ : 0 < S_.numel
  reducesTo_S2x192x512x512_S2x192_d2_3 : S2x192x512x512.ReducesTo [2, 3] S2x192
  reducesTo_S2x192_S_d0_1 : S2x192.ReducesTo [0, 1] S_

variable [Facts]

def fn {F : FTy → Type} [FloatOps F] (main_arg0 : FVec F S2x192x512x512 .f32) (main_arg1 : FVec F S1x192x1x1 .f32) (main_arg2 : FVec F S1x192x1x1 .f32) : IVec S_ 1 :=
  let main_v0 : FVec F S2x192x512x512 .f32 := Host.absf main_arg0
  let main_cst : FVec F S_ .f32 := constant S_ .f32 0x7F800000#32
  let main_v1 : FVec F S2x192x512x512 .f32 := broadcastInDim S2x192x512x512 ![] bcast_S_S2x192x512x512 main_cst
  let main_v2 : IVec S2x192x512x512 1 := cmpf .olt main_v0 main_v1
  let main_c : IVec S_ 1 := constantI S_ 1 1#1
  let main_v3 : IVec S_ 1 := (fun x v => Host.reduce IntOp.andi x v reducesTo_S2x192x512x512_S_d0_1_2_3 h_S_) main_v2 main_c
  let main_cst_0 : FVec F S_ .f32 := constant S_ .f32 0x00000000#32
  let main_v4 : FVec F S2x192x512x512 .f32 := broadcastInDim S2x192x512x512 ![] bcast_S_S2x192x512x512 main_cst_0
  let main_v5 : IVec S2x192x512x512 1 := cmpf .une main_arg0 main_v4
  let main_c_1 : IVec S_ 1 := constantI S_ 1 0#1
  let main_v6 : IVec S2x192 1 := (fun x v => Host.reduce IntOp.ori x v reducesTo_S2x192x512x512_S2x192_d2_3 h_S_) main_v5 main_c_1
  let main_c_2 : IVec S_ 1 := constantI S_ 1 1#1
  let main_v7 : IVec S_ 1 := (fun x v => Host.reduce IntOp.andi x v reducesTo_S2x192_S_d0_1 h_S_) main_v6 main_c_2
  let main_v8 : IVec S_ 1 := andi main_v3 main_v7
  main_v8
-- ==== Kernel.lean ====
abbrev S2x192x512x512 : Shape := ⟨4, ![2, 192, 512, 512]⟩
abbrev S1x192x1x1 : Shape := ⟨4, ![1, 192, 1, 1]⟩
abbrev S1x12x512x512 : Shape := ⟨4, ![1, 12, 512, 512]⟩
abbrev S1x1x512x512 : Shape := ⟨4, ![1, 1, 512, 512]⟩
abbrev S512x512 : Shape := ⟨2, ![512, 512]⟩
abbrev S1x512x512 : Shape := ⟨3, ![1, 512, 512]⟩
abbrev S1 : Shape := ⟨1, ![1]⟩
abbrev S1x1x1 : Shape := ⟨3, ![1, 1, 1]⟩

abbrev nBuf : Space → Nat
  | .hbm => 4
  | .vmem => 4
  | .smem => 0
  | _ => 0

abbrev bufTy : (tb : Table) → Fin (tcTables nBuf tb) → BufTy
  | .hbm, ⟨0, _⟩ => ⟨S2x192x512x512, .f32⟩
  | .hbm, ⟨1, _⟩ => ⟨S1x192x1x1, .f32⟩
  | .hbm, ⟨2, _⟩ => ⟨S1x192x1x1, .f32⟩
  | .hbm, ⟨3, _⟩ => ⟨S2x192x512x512, .f32⟩
  | .local _ .vmem, ⟨0, _⟩ => ⟨S1x12x512x512, .f32⟩
  | .local _ .vmem, ⟨1, _⟩ => ⟨S1x12x512x512, .f32⟩
  | .local _ .vmem, ⟨2, _⟩ => ⟨S1x12x512x512, .f32⟩
  | .local _ .vmem, ⟨3, _⟩ => ⟨S1x12x512x512, .f32⟩
  | _, _ => ⟨S2x192x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x12x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x12x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== KernelIdeal.lean ====
variable {F : FTy → Type} [FloatOps F] [Named F]
def κ : String → Option EReal := fun
  | "inv_n_less_1" => some ((1 / 262143 : ℝ) : EReal)
  | _ => none
-- ==== ReferenceIdeal.lean ====
abbrev S2x192x512x512 : Shape := ⟨4, ![2, 192, 512, 512]⟩
abbrev S1x192x1x1 : Shape := ⟨4, ![1, 192, 1, 1]⟩
abbrev S_ : Shape := ⟨0, ![]⟩
abbrev S2x192 : Shape := ⟨2, ![2, 192]⟩
abbrev S2x192x1x1 : Shape := ⟨4, ![2, 192, 1, 1]⟩

abbrev nBuf : Space → Nat
  | .hbm => 38
  | .vmem => 0
  | .smem => 0
  | _ => 0

abbrev bufTy : (tb : Table) → Fin (tcTables nBuf tb) → BufTy
  | .hbm, ⟨0, _⟩ => ⟨S2x192x512x512, .f32⟩
  | .hbm, ⟨1, _⟩ => ⟨S1x192x1x1, .f32⟩
  | .hbm, ⟨2, _⟩ => ⟨S1x192x1x1, .f32⟩
  | .hbm, ⟨3, _⟩ => ⟨S_, .f32⟩
  | .hbm, ⟨4, _⟩ => ⟨S2x192, .f32⟩
  | .hbm, ⟨5, _⟩ => ⟨S2x192x1x1, .f32⟩
  | .hbm, ⟨6, _⟩ => ⟨S_, .f32⟩
  | .hbm, ⟨7, _⟩ => ⟨S2x192x1x1, .f32⟩
  | .hbm, ⟨8, _⟩ => ⟨S2x192x1x1, .f32⟩
  | .hbm, ⟨9, _⟩ => ⟨S_, .i32⟩
  | .hbm, ⟨10, _⟩ => ⟨S_, .f32⟩
  | .hbm, ⟨11, _⟩ => ⟨S2x192, .f32⟩
  | .hbm, ⟨12, _⟩ => ⟨S2x192x1x1, .f32⟩
  | .hbm, ⟨13, _⟩ => ⟨S_, .f32⟩
  | .hbm, ⟨14, _⟩ => ⟨S2x192x1x1, .f32⟩
  | .hbm, ⟨15, _⟩ => ⟨S2x192x1x1, .f32⟩
  | .hbm, ⟨16, _⟩ => ⟨S2x192x512x512, .f32⟩
  | .hbm, ⟨17, _⟩ => ⟨S2x192x512x512, .f32⟩
  | .hbm, ⟨18, _⟩ => ⟨S2x192x512x512, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2x192, .f32⟩
  | .hbm, ⟨24, _⟩ => ⟨S2x192x1x1, .f32⟩
  | .hbm, ⟨25, _⟩ => ⟨S2x192x1x1, .f32⟩
  | .hbm, ⟨26, _⟩ => ⟨S2x192x1x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S2x192x1x1, .f32⟩
  | .hbm, ⟨32, _⟩ => ⟨S2x192x1x1, .f32⟩
  | .hbm, ⟨33, _⟩ => ⟨S2x192x1x1, .f32⟩
  | .hbm, ⟨34, _⟩ => ⟨S2x192x512x512, .f32⟩
  | .hbm, ⟨35, _⟩ => ⟨S2x192x512x512, .f32⟩
  | .hbm, ⟨36, _⟩ => ⟨S2x192x512x512, .f32⟩
  | .hbm, ⟨37, _⟩ => ⟨S2x192x512x512, .f32⟩
  | _, _ => ⟨S2x192x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_cst_0 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_cst_1 : Ref sig .tc := ⟨.hbm, 20, rfl⟩
abbrev main_call0_call0_v8 : Ref sig .tc := ⟨.hbm, 21, rfl⟩
abbrev main_call0_call0_cst_2 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_call0_v12 : Ref sig .tc := ⟨.hbm, 26, rfl⟩
abbrev main_call0_call0_cst_3 : Ref sig .tc := ⟨.hbm, 27, rfl⟩
abbrev main_call0_call0_v13 : Ref sig .tc := ⟨.hbm, 28, rfl⟩
abbrev main_call0_call0_cst_4 : Ref sig .tc := ⟨.hbm, 29, rfl⟩
abbrev main_call0_call0_call0_v0 : Ref sig .tc := ⟨.hbm, 30, rfl⟩
abbrev main_call0_call0_call0_v1 : Ref sig .tc := ⟨.hbm, 31, rfl⟩
abbrev main_call0_v0 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩

abbrev nD : Nat := 1
abbrev τ : Topo := Topo.v7x

variable {F : FTy → Type} [FloatOps F]
-- ==== Proof.Plane.lean ====
/-
  One plane of an instance norm over the extended reals. A plane is the 512 × 512 values of one channel of one
  example. `kernelPlane` is what the kernel computes of a plane (from the sum and the sum of squares), `refPlane` what
  the reference computes (from the mean and the squared deviations). `kernelPlane_eq_refPlane`: they are equal when
  every value is finite and not all values are zero.
-/
module

public import Idealize.ShloMosaic.PureOps.Ideal

@[expose] public section

noncomputable section

namespace InstanceNorm

open Idealize.ShloMosaic

/-- The values of one plane, by row and column. -/
abbrev Plane := Fin 512 → Fin 512 → EReal

/-- The sum of a plane's values. -/
def total (p : Plane) : EReal := ∑ h, ∑ w, p h w

/-- The kernel's mean: the sum, divided by the width and by the height. -/
def kernelMean (p : Plane) : EReal := total p * ((1 / 512 : ℝ) : EReal) * ((1 / 512 : ℝ) : EReal)

/-- The kernel's reciprocal deviation: from the sum of squares less the sum times the mean. -/
def kernelScale (p : Plane) : EReal :=
  Ideal.rsqrt ((total (fun h w => p h w * p h w) - total p * kernelMean p) * ((1 / 262143 : ℝ) : EReal))

/-- What the kernel stores at row `h`, column `w` of a plane. -/
def kernelPlane (p : Plane) (h w : Fin 512) : EReal := p h w * kernelScale p + (0 - kernelMean p) * kernelScale p

/-- The reference's mean: the sum divided by the number of values. -/
def refMean (p : Plane) : EReal := Ideal.div (total p) ((262144 : ℝ) : EReal)

/-- The reference's standard deviation: the root of the squared deviations' sum divided by one less than their number. -/
def refDev (p : Plane) : EReal :=
  Ideal.sqrt (Ideal.div (total fun h w => (p h w - refMean p) * (p h w - refMean p)) ((262143 : ℝ) : EReal))

/-- What the reference holds at row `h`, column `w` of a plane. -/
def refPlane (p : Plane) (h w : Fin 512) : EReal := Ideal.div (p h w - refMean p) (refDev p)

/-! ## Planes of real numbers -/

/-- A finite sum of real numbers is the same number among the extended reals. -/
theorem coe_sum {ι : Type} (s : Finset ι) (g : ι → ℝ) : (∑ i ∈ s, (g i : EReal)) = ((∑ i ∈ s, g i : ℝ) : EReal) := by
  classical
  induction s using Finset.induction_on with
  | empty => simp
  | insert a s ha ih => rw [Finset.sum_insert ha, Finset.sum_insert ha, ih, EReal.coe_add]

/-- The quotient of two real numbers, the divisor not zero, is the real quotient. -/
theorem div_real (a : ℝ) {b : ℝ} (hb : b ≠ 0) : Ideal.div (a : EReal) (b : EReal) = ((a / b : ℝ) : EReal) := by
  rw [Ideal.div_coe hb, ← EReal.coe_mul, mul_one_div]

/-- The sum of a plane of real numbers is the real sum. -/
theorem total_coe (f : Fin 512 → Fin 512 → ℝ) : total (fun h w => (f h w : EReal)) = ((∑ h, ∑ w, f h w : ℝ) : EReal) := by
  simp only [total, coe_sum]

/-- The mean of a plane of real numbers. -/
def mean (f : Fin 512 → Fin 512 → ℝ) : ℝ := (∑ h, ∑ w, f h w) / 262144

/-- The squared deviations' sum of a plane of real numbers. -/
def spread (f : Fin 512 → Fin 512 → ℝ) : ℝ := ∑ h, ∑ w, (f h w - mean f) * (f h w - mean f)

/-- The sum of squares less the sum times the mean is the squared deviations' sum. -/
theorem squares_sub (f : Fin 512 → Fin 512 → ℝ) :
    (∑ h, ∑ w, f h w * f h w) - (∑ h, ∑ w, f h w) * mean f = spread f := by
  have hS : (∑ h, ∑ w, f h w) = 262144 * mean f := by unfold mean; ring
  have e : ∀ h w, (f h w - mean f) * (f h w - mean f) = f h w * f h w - 2 * mean f * f h w + mean f * mean f :=
    fun h w => by ring
  unfold spread
  simp only [e, Finset.sum_add_distrib, Finset.sum_sub_distrib, ← Finset.mul_sum, Finset.sum_const, Finset.card_univ,
    Fintype.card_fin, nsmul_eq_mul]
  rw [hS]
  push_cast
  ring

/-- The squared deviations' sum is not negative. -/
theorem spread_nonneg (f : Fin 512 → Fin 512 → ℝ) : 0 ≤ spread f :=
  Finset.sum_nonneg fun _ _ => Finset.sum_nonneg fun _ _ => mul_self_nonneg _

/-- A plane without deviation holds its mean everywhere. -/
theorem eq_mean_of_spread_eq_zero (f : Fin 512 → Fin 512 → ℝ) (hs : spread f = 0) (h w : Fin 512) : f h w = mean f := by
  have h1 := (Finset.sum_eq_zero_iff_of_nonneg fun _ _ => Finset.sum_nonneg fun _ _ => mul_self_nonneg _).1 hs h
    (Finset.mem_univ h)
  have h2 := (Finset.sum_eq_zero_iff_of_nonneg fun _ _ => mul_self_nonneg _).1 h1 w (Finset.mem_univ w)
  exact sub_eq_zero.1 (mul_self_eq_zero.1 h2)

/-- The kernel's mean of a plane of real numbers is the real mean. -/
theorem kernelMean_coe (f : Fin 512 → Fin 512 → ℝ) : kernelMean (fun h w => (f h w : EReal)) = (mean f : EReal) := by
  unfold kernelMean mean
  rw [total_coe, ← EReal.coe_mul, ← EReal.coe_mul]
  congr 1
  ring

/-- The reference's mean of a plane of real numbers is the real mean. -/
theorem refMean_coe (f : Fin 512 → Fin 512 → ℝ) : refMean (fun h w => (f h w : EReal)) = (mean f : EReal) := by
  unfold refMean mean
  rw [total_coe, div_real _ (by norm_num)]

/-- The kernel's reciprocal deviation of a plane of real numbers, over the deviations' sum. -/
theorem kernelScale_coe (f : Fin 512 → Fin 512 → ℝ) :
    kernelScale (fun h w => (f h w : EReal)) = Ideal.rsqrt ((spread f / 262143 : ℝ) : EReal) := by
  unfold kernelScale
  simp only [kernelMean_coe, ← EReal.coe_mul, total_coe, ← EReal.coe_sub, squares_sub]
  congr 2
  ring

/-- The reference's deviation of a plane of real numbers, over the deviations' sum. -/
theorem refDev_coe (f : Fin 512 → Fin 512 → ℝ) :
    refDev (fun h w => (f h w : EReal)) = Ideal.sqrt ((spread f / 262143 : ℝ) : EReal) := by
  unfold refDev
  simp only [refMean_coe, ← EReal.coe_mul, ← EReal.coe_sub, total_coe]
  rw [div_real _ (by norm_num)]
  rfl

/-- Kernel and reference agree on a plane of real numbers that deviate: both are the deviation over the standard
    deviation. -/
theorem eq_of_spread_pos (f : Fin 512 → Fin 512 → ℝ) (hs : 0 < spread f) (h w : Fin 512) :
    kernelPlane (fun h w => (f h w : EReal)) h w = refPlane (fun h w => (f h w : EReal)) h w := by
  have hv : 0 < spread f / 262143 := by positivity
  unfold kernelPlane refPlane
  beta_reduce
  rw [kernelScale_coe, refDev_coe, kernelMean_coe, refMean_coe, Ideal.rsqrt_coe, Ideal.sqrt_coe, if_neg hv.not_gt, if_neg hv.ne',
    if_neg hv.not_gt, ← EReal.coe_zero, ← EReal.coe_sub, ← EReal.coe_sub, div_real _ (Real.sqrt_pos.2 hv).ne', ← EReal.coe_mul,
    ← EReal.coe_mul, ← EReal.coe_add]
  congr 1
  ring

/-- Kernel and reference agree on a plane that holds one real number other than zero throughout: both are minus
    infinity, the kernel as the difference of two infinities, the reference as zero over zero. -/
theorem eq_of_spread_zero (f : Fin 512 → Fin 512 → ℝ) (hs : spread f = 0) (hne : ∃ h w, f h w ≠ 0) (h w : Fin 512) :
    kernelPlane (fun h w => (f h w : EReal)) h w = refPlane (fun h w => (f h w : EReal)) h w := by
  have hm : mean f ≠ 0 := by
    obtain ⟨a, b, hab⟩ := hne
    rwa [eq_mean_of_spread_eq_zero f hs a b] at hab
  unfold kernelPlane refPlane
  beta_reduce
  rw [kernelScale_coe, refDev_coe, kernelMean_coe, refMean_coe, eq_mean_of_spread_eq_zero f hs h w, hs, zero_div,
    Ideal.rsqrt_coe, Ideal.sqrt_coe, if_neg (lt_irrefl _), if_pos rfl, if_neg (lt_irrefl _), Real.sqrt_zero, ← EReal.coe_sub, sub_self]
  rw [← EReal.coe_zero, ← EReal.coe_sub, zero_sub]
  have hr : Ideal.div ((0 : ℝ) : EReal) ((0 : ℝ) : EReal) = ⊥ := by simp [Ideal.div]
  rw [hr]
  rcases lt_or_gt_of_ne hm with hlt | hgt
  · rw [EReal.coe_mul_top_of_neg hlt, EReal.bot_add]
  · rw [EReal.coe_mul_top_of_neg (neg_lt_zero.2 hgt), EReal.add_bot]

/-- The kernel's plane is the reference's, for a plane of finite values not all of which are zero. -/
theorem kernelPlane_eq_refPlane (p : Plane) (hfin : ∀ h w, p h w ≠ ⊤ ∧ p h w ≠ ⊥) (hne : ∃ h w, p h w ≠ 0)
    (h w : Fin 512) : kernelPlane p h w = refPlane p h w := by
  have hp : p = fun h w => ((p h w).toReal : EReal) :=
    funext fun h => funext fun w => (EReal.coe_toReal (hfin h w).1 (hfin h w).2).symm
  obtain ⟨f, rfl⟩ : ∃ f : Fin 512 → Fin 512 → ℝ, p = fun h w => (f h w : EReal) := ⟨_, hp⟩
  rcases (spread_nonneg f).lt_or_eq with hs | hs
  · exact eq_of_spread_pos f hs h w
  · exact eq_of_spread_zero f hs.symm (by simpa using hne) h w

/-! ## Why the two conditions are needed -/

/-- On a plane that is zero throughout the kernel gives zero and the reference minus infinity. -/
theorem zero_plane (h w : Fin 512) : kernelPlane (fun _ _ => 0) h w = 0 ∧ refPlane (fun _ _ => 0) h w = ⊥ := by
  have hs : spread (fun _ _ => 0) = 0 := by simp [spread, mean]
  have hm : mean (fun _ _ => 0) = 0 := by simp [mean]
  have hk := kernelScale_coe fun _ _ => 0
  have hd := refDev_coe fun _ _ => 0
  have hkm := kernelMean_coe fun _ _ => 0
  have hrm := refMean_coe fun _ _ => 0
  simp only [EReal.coe_zero, hs, hm, zero_div] at hk hd hkm hrm
  unfold kernelPlane refPlane
  rw [hk, hd, hkm, hrm]
  constructor
  · simp
  · rw [← EReal.coe_zero, Ideal.sqrt_coe, if_neg (lt_irrefl _), Real.sqrt_zero]
    simp [Ideal.div]

/-- The sum of a plane that is plus infinity throughout. -/
theorem total_top : total (fun _ _ => ⊤) = ⊤ := by
  have hn : (512 : EReal) * ⊤ = ⊤ := EReal.coe_mul_top_of_pos (x := 512) (by norm_num)
  simp [total, EReal.nsmul_eq_mul, hn]

/-- On a plane that is plus infinity throughout the kernel gives minus infinity and the reference zero. -/
theorem infinite_plane (h w : Fin 512) : kernelPlane (fun _ _ => ⊤) h w = ⊥ ∧ refPlane (fun _ _ => ⊤) h w = 0 := by
  have hk : kernelMean (fun _ _ => ⊤) = ⊤ := by
    unfold kernelMean
    rw [total_top, EReal.top_mul_coe_of_pos (by norm_num), EReal.top_mul_coe_of_pos (by norm_num)]
  have hr : refMean (fun _ _ => ⊤) = ⊤ := by
    unfold refMean
    rw [total_top, Ideal.div_coe (by norm_num), EReal.top_mul_coe_of_pos (by norm_num)]
  have hs : kernelScale (fun _ _ => ⊤) = ⊥ := by
    unfold kernelScale
    rw [hk]
    simp only [EReal.top_mul_top, total_top, EReal.sub_top]
    rw [EReal.bot_mul_coe_of_pos (by norm_num), Ideal.rsqrt_bot]
  have hd : refDev (fun _ _ => ⊤) = ⊤ := by
    unfold refDev
    rw [hr]
    simp only [EReal.sub_top, EReal.bot_mul_bot, total_top]
    rw [Ideal.div_coe (by norm_num), EReal.top_mul_coe_of_pos (by norm_num)]
    rfl
  unfold kernelPlane refPlane
  beta_reduce
  rw [hk, hs, hr, hd, EReal.sub_top]
  exact ⟨by simp, by simp [Ideal.div]⟩

end InstanceNorm

end
-- ==== Proof.Consts.lean ====
/-
  The constants of the two programs as extended reals: one 512th, 2^18 (the number of values in a plane), 1, plus
  infinity, and the kernel's named constant, one over 2^18 − 1.
-/
module

public import proofs.«01_k».proof.KernelIdeal
public import Idealize.ShloMosaic.PureOps.IdealRules

@[expose] public section

noncomputable section

namespace InstanceNorm

open Idealize.ShloMosaic

/-- The f32 word `0x3B000000` is one 512th. -/
theorem ofBits_inv_512 : Ideal.ofBits .f32 0x3B000000#32 = ((1 / 512 : ℝ) : EReal) := by
  simp [Ideal.ofBits, Ideal.ieee, -EReal.coe_mul]; norm_num

/-- The f32 word `0x48800000` is 2^18. -/
theorem ofBits_size : Ideal.ofBits .f32 0x48800000#32 = ((262144 : ℝ) : EReal) := by
  simp [Ideal.ofBits, Ideal.ieee, -EReal.coe_mul]; norm_num

/-- The f32 word `0x7F800000` is plus infinity. -/
theorem ofBits_infinity : Ideal.ofBits .f32 0x7F800000#32 = ⊤ := by
  simp [Ideal.ofBits, Ideal.ieee]

/-- The kernel's named constant is one over 2^18 − 1. -/
theorem named_inv : (Named.named (F := Ideal) Cert.KernelIdeal.κ "inv_n_less_1" (φ := .f32) 0x36800020#32 : EReal)
    = ((1 / 262143 : ℝ) : EReal) :=
  IdealRules.named_const.ideal_named_scalar _ _ _ _ rfl

end InstanceNorm

end
-- ==== Proof.Block.lean ====
/-
  What one run of the kernel's body stores. Each of its twelve stores writes one plane; `store_apply` reads the stored
  value at an index, `out_apply` reads the whole output block.
-/
module

public import proofs.«01_k».proof.Proof.Gen.KernelIdeal.Value
public import proofs.«01_k».proof.Proof.Plane
public import proofs.«01_k».proof.Proof.Consts
public import Idealize.ShloMosaic.Lib.Pipeline.ValueKit
public import Idealize.ShloMosaic.Lib.Pointwise

@[expose] public section

set_option maxRecDepth 16384

noncomputable section

namespace InstanceNorm

open Cert.KernelIdeal Cert.KernelIdeal.Gen Idealize.ShloMosaic Idealize.ShloMosaic.TcCoe

/-- The value stored for a loaded plane `v`, at an index: `kernelPlane` of that plane. -/
theorem store_apply (v : Vec Ideal S1x1x512x512 .f32) (j : S1x1x512x512.Idx) :
    k0_pay2 v j = kernelPlane (fun h w => v (ix4 0 0 h w)) (j 2) (j 3) := by
  idx_vars j
  pointwise [k0_pay2]
  rw [ofBits_inv_512, named_inv]
  rfl

/-- The twelve stores are one function of the twelve loads: the later ones differ from the first only in where the
    printed program is cut into parts. -/
theorem out_eq (x : Vec Ideal S1x12x512x512 .f32) : out0_1 x =
    View.canon [⟨r0_11, k0_pay2 (View.ld x r0_11)⟩, ⟨r0_10, k0_pay2 (View.ld x r0_10)⟩, ⟨r0_9, k0_pay2 (View.ld x r0_9)⟩,
      ⟨r0_8, k0_pay2 (View.ld x r0_8)⟩, ⟨r0_7, k0_pay2 (View.ld x r0_7)⟩, ⟨r0_6, k0_pay2 (View.ld x r0_6)⟩,
      ⟨r0_5, k0_pay2 (View.ld x r0_5)⟩, ⟨r0_4, k0_pay2 (View.ld x r0_4)⟩, ⟨r0_3, k0_pay2 (View.ld x r0_3)⟩,
      ⟨r0_2, k0_pay2 (View.ld x r0_2)⟩, ⟨r0_1, k0_pay2 (View.ld x r0_1)⟩, ⟨r0_0, k0_pay2 (View.ld x r0_0)⟩] := rfl

/-- A store into channel `k` of the block, of the plane loaded from channel `k`: at an index of the block in that
    channel it is `kernelPlane` of the block's plane there. -/
theorem store_at (x : Vec Ideal S1x12x512x512 .f32) (y : S1x12x512x512.Idx) (k : ℕ)
    (inb : ∀ a, (![0, k, 0, 0] : Fin 4 → ℕ) a + S1x1x512x512.size a ≤ S1x12x512x512.size a)
    (z : S1x1x512x512.Idx) (h1 : (y 1 : ℕ) = k) (h2 : (y 2 : ℕ) = z 2) (h3 : (y 3 : ℕ) = z 3) :
    k0_pay2 (View.ld x (Rect.unit (s := S1x12x512x512) ![0, k, 0, 0] S1x1x512x512.size inb)) z
      = kernelPlane (fun h w => x (ix4 0 (y 1) h w)) (y 2) (y 3) := by
  subst h1
  rw [store_apply, show z 2 = y 2 from Fin.ext h2.symm, show z 3 = y 3 from Fin.ext h3.symm]
  congr 1
  funext h w
  idx_vars y
  pointwise

/-- The output block at an index: `kernelPlane` of the input block's plane at the same channel. -/
theorem out_apply (x : Vec Ideal S1x12x512x512 .f32) (y : S1x12x512x512.Idx) :
    out0_1 x y = kernelPlane (fun h w => x (ix4 0 (y 1) h w)) (y 2) (y 3) := by
  rw [out_eq]
  canon_tiles z h
  all_goals exact store_at x y _ _ z (by omega) h2 h3

end InstanceNorm

end
-- ==== Proof.Array.lean ====
/-
  The output array after the kernel's run. The grid's 32 points write disjoint blocks of twelve planes that fill the
  array; `array_eq` says that the array then holds `kernelPlane` of the input's planes.
-/
module

public import proofs.«01_k».proof.Proof.Block

@[expose] public section

set_option maxRecDepth 16384

noncomputable section

namespace InstanceNorm

open Cert.KernelIdeal Cert.KernelIdeal.Gen Idealize.ShloMosaic Idealize.ShloMosaic.TcCoe Idealize.SL.Sem

variable (m : (ℓ : Loc nD τ sig) → Buf (Elt Ideal) ℓ)

/-- The kernel's first argument on device `c`, as launched. -/
abbrev input (c : Dev nD) : Vec Ideal S2x192x512x512 .f32 := m ((c : Thread nD τ).loc main_arg0)

/-- What the output array holds: at every index `kernelPlane` of the input's plane there. -/
def normalized (c : Dev nD) : Vec Ideal S2x192x512x512 .f32 := fun j =>
  kernelPlane (fun h w => input m c (ix4 (j 0) (j 1) h w)) (j 2) (j 3)

/-- The input's block at a point stands where the output's does, and both hold whole planes. -/
theorem index_eq : ∀ t : Fin cfg0.N, win0_0.index t = win0_1.index t ∧ win0_1.index t 2 = 0 ∧ win0_1.index t 3 = 0 :=
  (by decide +kernel : ∀ t : Fin grid0.N, win0_0.index t = win0_1.index t ∧ win0_1.index t 2 = 0 ∧ win0_1.index t 3 = 0)

/-- The output array after the run. -/
theorem array_eq (c : Dev nD) : (dats m 0 c).arrAt 1 cfg0.N = normalized m c := by
  refine (dats m 0 c).arrAt_eq_of_covers 1 _ (by decide +kernel) fun t hf y => ?_
  blk_simp
  rw [after0_1]
  refine (out_apply (iblk m c 0 t) y).trans ?_
  obtain ⟨h, h2, h3⟩ := index_eq t
  have e2 : (win0_1.blk t).view.emb y 2 = y 2 := Fin.ext (by blk_simp [h2])
  have e3 : (win0_1.blk t).view.emb y 3 = y 3 := Fin.ext (by blk_simp [h3])
  unfold normalized
  rw [e2, e3]
  congr 1
  funext a b
  blk_ext [iblk, V, h, h2, h3]

end InstanceNorm

end
-- ==== Proof.Reference.lean ====
/-
  What the reference computes. `refArray` is the reference's result as a term of its first argument; `refArray_apply`
  reads it at an index: `refPlane` of the argument's plane there.
-/
module

public import proofs.«01_k».proof.Proof.Gen.ReferenceIdeal.Run
public import proofs.«01_k».proof.Proof.Plane
public import proofs.«01_k».proof.Proof.Consts
public import Idealize.ShloMosaic.Lib.Pointwise

@[expose] public section

set_option maxRecDepth 16384

noncomputable section

namespace InstanceNorm

open Cert.ReferenceIdeal Cert.ReferenceIdeal.Gen Idealize.ShloMosaic Idealize.ShloMosaic.TcCoe

/-- A whole argument array of the reference. -/
abbrev Batch := FVec Ideal S2x192x512x512 .f32

/-- One number per plane, at every index of that plane. -/
def perPlane (v : FVec Ideal S2x192x1x1 .f32) : Batch :=
  broadcastInDim S2x192x512x512 ![0, 1, 2, 3] bcast_S2x192x1x1_S2x192x512x512_0_1_2_3 v

/-- The sum of each plane, as the reference takes it. -/
def sums (x : Batch) : FVec Ideal S2x192x1x1 .f32 :=
  broadcastInDim S2x192x1x1 ![0, 1] bcast_S2x192_S2x192x1x1_0_1
    (Host.reduceAdd x (constant S_ .f32 0x00000000#32) reducesTo_S2x192x512x512_S2x192_d2_3 h_S_)

/-- The mean of each plane, as the reference takes it. -/
def means (x : Batch) : FVec Ideal S2x192x1x1 .f32 :=
  Host.divf (sums x) (broadcastInDim S2x192x1x1 ![] bcast_S_S2x192x1x1 (constant S_ .f32 0x48800000#32))

/-- One less than the number of values in a plane, as the reference computes it. -/
def sizeLessOne : FVec Ideal S_ .f32 := subf (constant S_ .f32 0x48800000#32) (sitofp .f32 (constantI S_ 32 1#32))

/-- The variance of each plane, as the reference takes it: were the divisor not positive, it would be NaN. -/
def variances (x : Batch) : FVec Ideal S2x192x1x1 .f32 :=
  select (broadcastInDim S2x192x1x1 ![] bcast_S_S2x192x1x1 (cmpf .ogt sizeLessOne (constant S_ .f32 0x00000000#32)))
    (Host.divf (sums (mulf (subf x (perPlane (means x))) (subf x (perPlane (means x)))))
      (broadcastInDim S2x192x1x1 ![] bcast_S_S2x192x1x1 sizeLessOne))
    (broadcastInDim S2x192x1x1 ![] bcast_S_S2x192x1x1 (id (α := FVec Ideal S_ .f32) (constant S_ .f32 0x7FC00000#32)))

/-- The reference's result. -/
def refArray (x : Batch) : Batch :=
  Host.divf (subf x (perPlane (means x))) (perPlane (Host.sqrt (variances x)))

/-- The plane of channel `c` of example `b`. -/
abbrev planeOf (x : Batch) (b : Fin 2) (c : Fin 192) : Plane := fun h w => x (ix4 b c h w)

/-- A plane's sum at an index. -/
theorem sums_apply (x : Batch) (b : Fin 2) (c : Fin 192) : sums x (ix4 b c 0 0) = total (planeOf x b c) := by
  pointwise [sums]
  rfl

/-- A number per plane at an index of that plane. -/
theorem perPlane_apply (v : FVec Ideal S2x192x1x1 .f32) (b : Fin 2) (c : Fin 192) (h w : Fin 512) :
    perPlane v (ix4 b c h w) = v (ix4 b c 0 0) := by
  pointwise [perPlane]

/-- A plane's mean at an index: `refMean` of the plane. -/
theorem means_apply (x : Batch) (b : Fin 2) (c : Fin 192) : means x (ix4 b c 0 0) = refMean (planeOf x b c) := by
  pointwise [means]
  rw [sums_apply, ofBits_size]
  rfl

/-- The divisor of the variance is 2^18 − 1. -/
theorem sizeLessOne_apply (j : S_.Idx) : sizeLessOne j = ((262143 : ℝ) : EReal) := by
  pointwise [sizeLessOne]
  rw [ofBits_size, show FloatOps.sitofp (F := Ideal) .f32 1#32 = ((((1#32 : BitVec 32).toInt : ℝ) : EReal)) from rfl,
    ← EReal.coe_sub]
  norm_num

/-- A plane's variance at an index: the squared deviations' sum over 2^18 − 1, since that divisor is positive. -/
theorem variances_apply (x : Batch) (b : Fin 2) (c : Fin 192) :
    variances x (ix4 b c 0 0) = Ideal.div (total fun h w =>
      (planeOf x b c h w - refMean (planeOf x b c)) * (planeOf x b c h w - refMean (planeOf x b c)))
      ((262143 : ℝ) : EReal) := by
  pointwise [variances]
  rw [if_pos (by rw [sizeLessOne_apply]; exact_mod_cast (by norm_num : (0 : ℝ) < 262143)), sums_apply, sizeLessOne_apply]
  congr 2
  funext h w
  pointwise
  rw [perPlane_apply, means_apply]

/-- The reference's result at an index: `refPlane` of the argument's plane there. -/
theorem refArray_apply (x : Batch) (j : S2x192x512x512.Idx) :
    refArray x j = refPlane (planeOf x (j 0) (j 1)) (j 2) (j 3) := by
  idx_vars j
  pointwise [refArray]
  rw [perPlane_apply, perPlane_apply]
  pointwise
  rw [means_apply, variances_apply]
  rfl

end InstanceNorm

end
-- ==== Proof.Precondition.lean ====
/-
  What the precondition says of the argument: every value is a real number, and every plane has a value that is not zero.
-/
module

public import proofs.«01_k».proof.Proof.Gen.Pre_planes_finite_not_zero
public import proofs.«01_k».proof.Proof.Consts
public import Idealize.ShloMosaic.Lib.Pointwise
public import Idealize.ShloMosaic.Lib.ReduceAll
public import Idealize.ShloMosaic.Lib.WordCmp
public import Idealize.ShloMosaic.Lib.Routing.OpsOrder

@[expose] public section

set_option maxRecDepth 16384

noncomputable section

namespace InstanceNorm

open Cert.Pre_planes_finite_not_zero Cert.Pre_planes_finite_not_zero.Gen Idealize.ShloMosaic

/-- Where the precondition is 1, every value is neither infinity, and every plane has a value other than zero. -/
theorem finite_not_zero (x : FVec Ideal S2x192x512x512 .f32) (w b : FVec Ideal S1x192x1x1 .f32)
    (h : fn (F := Ideal) x w b = fun _ => 1#1) :
    (∀ j, x j ≠ ⊤ ∧ x j ≠ ⊥) ∧ ∀ (b : Fin 2) (c : Fin 192), ∃ h w, x (ix4 b c h w) ≠ 0 := by
  have e := congrFun h ix0
  unfold fn at e
  obtain ⟨e1, e2⟩ := IntOp.andi_eq_one.1 e
  haveI : Subsingleton S_.Idx := ⟨fun a b => funext fun k => k.elim0⟩
  constructor
  · intro j
    have h1 := Host.reduce_andi_all _ _ _ _ _ e1 j
    pointwise at h1
    have h2 : max (x j) (-(x j)) < (⊤ : EReal) := by
      rw [← ofBits_infinity]
      exact (WordCmp.ofBool_decide_eq_one_iff _).1 h1
    constructor <;> intro he <;> rw [he] at h2 <;> simp at h2
  · intro b c
    have h1 := Host.reduce_andi_all _ _ _ _ _ e2 (ix2 b c)
    pointwise at h1
    obtain ⟨q, -, hq⟩ := (Routing.fold_ori _ _).1 h1
    exact ⟨q.1, q.2, (WordCmp.ofBool_decide_eq_one_iff _).1 hq⟩

end InstanceNorm

end
-- ==== Proof.lean ====
/-
  The proof of `Cert.Claim`: the two kernels' and the reference's frames, the named constant's value, and the equation of
  the idealized kernel's result with the reference's (`algebraic`), under the precondition that every value is finite
  and no plane is zero throughout. The equation is assembled from `array_eq` (what the kernel leaves), `refArray_apply`
  (what the reference leaves), `finite_not_zero` (the precondition) and `kernelPlane_eq_refPlane` (the mathematics).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal.Run
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_planes_finite_not_zero
public import proofs.«01_k».proof.Proof.Array
public import proofs.«01_k».proof.Proof.Reference
public import proofs.«01_k».proof.Proof.Precondition
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem InstanceNorm

/-- The idealized kernel runs, its arguments end unchanged, its counters end at zero. -/
theorem kernelIdeal_frame : Cert.quiescent_KernelIdeal (hKernelIdeal := Cert.KernelIdeal.Gen.facts) :=
  fun m ρ _ => Cert.KernelIdeal.Gen.frame m ρ

/-- The reference runs, its arguments end unchanged, its counters end at zero. -/
theorem reference_frame : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The reference's result is the kernel's, for arguments that meet the precondition. -/
theorem result_eq (m : (ℓ : Loc Cert.KernelIdeal.nD Cert.KernelIdeal.τ Cert.KernelIdeal.sig) → Buf (Elt Ideal) ℓ)
    (hpre : Cert.Pre_KernelIdeal_planes_finite_not_zero m) (c : Dev Cert.KernelIdeal.nD) :
    refArray (input m c) = normalized m c := by
  obtain ⟨hfin, hne⟩ := finite_not_zero _ _ _ (hpre c)
  funext j
  rw [refArray_apply]
  exact (kernelPlane_eq_refPlane _ (fun h w => hfin _) (hne _ _) _ _).symm

/-- The idealized kernel and the reference leave the same result, for arguments that meet the precondition. -/
theorem algebraic : Cert.algebraic_KernelIdeal_ReferenceIdeal_pre_planes_finite_not_zero
    (hKernelIdeal := Cert.KernelIdeal.Gen.facts) (hReferenceIdeal := Cert.ReferenceIdeal.Gen.facts)
    (hPre_planes_finite_not_zero := Cert.Pre_planes_finite_not_zero.Gen.facts) := by
  intro m ρ m' ρ' hpre hagree
  refine ⟨fun c => normalized m c,
    (θ_run _ _ _).mono (fun _ h c => ⟨(h c).1.trans (array_eq m c), (h c).2⟩) (Cert.KernelIdeal.Value.run_blocks (F := Ideal) m ρ),
    (θ_run _ _ _).mono (fun _ h c => ⟨(h c).1.trans ?_, (h c).2⟩) (Cert.ReferenceIdeal.Value.run (F := Ideal) m' ρ')⟩
  rw [(hagree c).1]
  exact result_eq m hpre c

/-- Everything that is claimed. -/
theorem claim : Cert.Claim :=
  ⟨Cert.Kernel.Gen.facts, Cert.KernelIdeal.Gen.facts, Cert.ReferenceIdeal.Gen.facts, Cert.Pre_planes_finite_not_zero.Gen.facts,
    fun m ρ _ => Cert.Kernel.Gen.frame m ρ, kernelIdeal_frame, fun m ρ _ => kernelIdeal_frame m ρ trivial,
    reference_frame, fun m ρ _ => reference_frame m ρ trivial,
    IdealRules.named_const.statement Cert.KernelIdeal.κ "inv_n_less_1" .f32 0x36800020#32 ((1 / 262143 : ℝ) : EReal) rfl,
    algebraic⟩

end Cert.Proof

end
